-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near_addition_pre_finite [hKernelIdeal : Cert.KernelIdeal.Facts] [hPre_finite : Cert.Pre_finite.Facts] [hPost_near_addition : Cert.Post_near_addition.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near_addition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v2))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPost_near_addition : Cert.Post_near_addition.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ holds_KernelIdeal_near_addition_pre_finite (hKernelIdeal := hKernelIdeal) (hPre_finite := hPre_finite) (hPost_near_addition := hPost_near_addition)
-- ==== Post_near_addition.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn_where {F : FTy → Type} [FloatOps F] (arg0 : IVec S16384x2048 1) (arg1 : FVec F S16384x2048 .f32) (arg2 : FVec F S16384x2048 .f32) : FVec F S16384x2048 .f32 :=
  let v0 : FVec F S16384x2048 .f32 := select arg0 arg1 arg2
  v0

def fn_where_0 {F : FTy → Type} [FloatOps F] (arg0 : IVec S16384x2048 1) (arg1 : FVec F S16384x2048 .f32) (arg2 : FVec F S_ .f32) : FVec F S16384x2048 .f32 :=
  let v0 : FVec F S_ .f32 := id arg2
  let v1 : FVec F S16384x2048 .f32 := broadcastInDim S16384x2048 ![] bcast_S_S16384x2048 v0
  let v2 : FVec F S16384x2048 .f32 := select arg0 arg1 v1
  v2

def fn_part2 {F : FTy → Type} [FloatOps F] (main_v31 : IVec S_ 1) (main_v33 : IVec S_ 1) : IVec S_ 1 :=
  let main_v34 : IVec S_ 1 := andi main_v31 main_v33
  main_v34

def fn_part1 {F : FTy → Type} [FloatOps F] (main_arg0 : FVec F S16384x2048 .f32) (main_arg1 : IVec S16384x2048 32) (main_arg2 : FVec F S_ .f32) (main_v9 : FVec F S16384x2048 .f32) (main_v17 : FVec F S_ .f32) : IVec S_ 1 :=
  let main_cst_4 : FVec F S_ .f32 := constant S_ .f32 0x4C000000#32
  let main_v18 : FVec F S_ .f32 := Host.divf main_v17 main_cst_4
  let main_c_5 : IVec S_ 32 := constantI S_ 32 1#32
  let main_v19 : IVec S16384x2048 32 := broadcastInDim S16384x2048 ![] bcast_S_S16384x2048 main_c_5
  let main_v20 : IVec S16384x2048 1 := cmpi .eq main_arg1 main_v19
  let main_cst_6 : FVec F S_ .f32 := constant S_ .f32 0x00000000#32
  let main_v21 : FVec F S16384x2048 .f32 := broadcastInDim S16384x2048 ![] bcast_S_S16384x2048 main_cst_6
  let main_v22 : IVec S16384x2048 1 := cmpf .une main_arg0 main_v21
  let main_v23 : IVec S16384x2048 1 := andi main_v20 main_v22
  let main_cst_7 : FVec F S_ .f32 := constant S_ .f32 0x0C01CEB3#32
  let main_v24 : FVec F S16384x2048 .f32 := broadcastInDim S16384x2048 ![] bcast_S_S16384x2048 main_cst_7
  let main_v25 : FVec F S16384x2048 .f32 := Host.divf main_v24 main_v9
  let main_cst_8 : FVec F S_ .f32 := constant S_ .f32 0x3F333333#32
  let main_v26 : FVec F S16384x2048 .f32 := broadcastInDim S16384x2048 ![] bcast_S_S16384x2048 main_cst_8
  let main_v27 : FVec F S16384x2048 .f32 := minimumf main_v25 main_v26
  let main_cst_9 : FVec F S_ .f32 := constant S_ .f32 0x00000000#32
  let main_v28 : FVec F S16384x2048 .f32 := fn_where_0 (F := F) main_v23 main_v27 main_cst_9
  let main_cst_10 : FVec F S_ .f32 := constant S_ .f32 0x00000000#32
  let main_v29 : FVec F S_ .f32 := (fun x v => Host.reduceAdd x v reducesTo_S16384x2048_S_d0_1 h_S_) main_v28 main_cst_10
  let main_cst_11 : FVec F S_ .f32 := constant S_ .f32 0x4C000000#32
  let main_v30 : FVec F S_ .f32 := Host.divf main_v29 main_cst_11
  let main_v31 : IVec S_ 1 := cmpf .ole main_v18 main_arg2
  let main_v32 : FVec F S_ .f32 := addf main_v18 main_v30
  let main_v33 : IVec S_ 1 := cmpf .ole main_arg2 main_v32
  fn_part2 (F := F) main_v31 main_v33

def fn {F : FTy → Type} [FloatOps F] (main_arg0 : FVec F S16384x2048 .f32) (main_arg1 : IVec S16384x2048 32) (main_arg2 : FVec F S_ .f32) : IVec S_ 1 :=
  let main_v0 : FVec F S16384x2048 .f32 := mulf main_arg0 main_arg0
  let main_cst : FVec F S_ .f32 := constant S_ .f32 0x3F800000#32
  let main_v1 : FVec F S16384x2048 .f32 := broadcastInDim S16384x2048 ![] bcast_S_S16384x2048 main_cst
  let main_v2 : FVec F S16384x2048 .f32 := addf main_v0 main_v1
  let main_v3 : FVec F S16384x2048 .f32 := Host.sqrt main_v2
  let main_cst_0 : FVec F S_ .f32 := constant S_ .f32 0x3F800000#32
  let main_v4 : FVec F S16384x2048 .f32 := broadcastInDim S16384x2048 ![] bcast_S_S16384x2048 main_cst_0
  let main_v5 : FVec F S16384x2048 .f32 := subf main_v3 main_v4
  let main_v6 : FVec F S16384x2048 .f32 := Host.negf main_v5
  let main_v7 : FVec F S16384x2048 .f32 := Host.exp main_v6
  let main_cst_1 : FVec F S_ .f32 := constant S_ .f32 0x3F800000#32
  let main_v8 : FVec F S16384x2048 .f32 := broadcastInDim S16384x2048 ![] bcast_S_S16384x2048 main_cst_1
  let main_v9 : FVec F S16384x2048 .f32 := subf main_v8 main_v7
  let main_c : IVec S_ 32 := constantI S_ 32 1#32
  let main_v10 : IVec S16384x2048 32 := broadcastInDim S16384x2048 ![] bcast_S_S16384x2048 main_c
  let main_v11 : IVec S16384x2048 1 := cmpi .eq main_arg1 main_v10
  let main_cst_2 : FVec F S_ .f32 := constant S_ .f32 0x0C01CEB3#32
  let main_v12 : FVec F S16384x2048 .f32 := broadcastInDim S16384x2048 ![] bcast_S_S16384x2048 main_cst_2
  let main_v13 : FVec F S16384x2048 .f32 := addf main_v9 main_v12
  let main_v14 : FVec F S16384x2048 .f32 := Host.log main_v13
  let main_v15 : FVec F S16384x2048 .f32 := Host.negf main_v14
  let main_v16 : FVec F S16384x2048 .f32 := fn_where (F := F) main_v11 main_v15 main_v5
  let main_cst_3 : FVec F S_ .f32 := constant S_ .f32 0x00000000#32
  let main_v17 : FVec F S_ .f32 := (fun x v => Host.reduceAdd x v reducesTo_S16384x2048_S_d0_1 h_S_) main_v16 main_cst_3
  fn_part1 (F := F) main_arg0 main_arg1 main_arg2 main_v9 main_v17
-- ==== Pre_finite.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : IVec S16384x2048 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S1x1 : Shape := ⟨2, ![1, 1]⟩
abbrev S1024x2048 : Shape := ⟨2, ![1024, 2048]⟩
abbrev S8x2048 : Shape := ⟨2, ![8, 2048]⟩
abbrev S1x8x2048 : Shape := ⟨3, ![1, 8, 2048]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 4
  | .smem => 1
  | _ => 0

abbrev bufTy : (tb : Table) → Fin (tcTables nBuf tb) → BufTy
  | .hbm, ⟨0, _⟩ => ⟨S16384x2048, .f32⟩
  | .hbm, ⟨1, _⟩ => ⟨S16384x2048, .i32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .i32⟩
  | .local _ .vmem, ⟨3, _⟩ => ⟨S1024x2048, .i32⟩
  | .local _ .smem, ⟨0, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_off1 (c0_i32 : BitVec 32) : Fin 2 → Nat :=
  let c8_i32 : BitVec 32 := 8#32
  let v1 : BitVec 32 := Scalar.muli c0_i32 c8_i32
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x2048 : Shape := ⟨2, ![16384, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .i32⟩
  | .hbm, ⟨2, _⟩ => ⟨S16384x2048, .f32⟩
  | .hbm, ⟨3, _⟩ => ⟨S_, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .i32⟩
  | .hbm, ⟨21, _⟩ => ⟨S16384x2048, .i32⟩
  | .hbm, ⟨22, _⟩ => ⟨S16384x2048, .i1⟩
  | .hbm, ⟨23, _⟩ => ⟨S16384x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Block.lean ====
/- What one grid step of the kernel computes: the block of 1024 rows is read in 128 chunks of eight rows, each chunk's
   logarithms are added to a register accumulator, and the accumulator's sum is taken off the running total. -/
module

public import proofs.«01_k».proof.Proof.Gen.KernelIdeal.Frame
public import Idealize.ShloMosaic.Lib.Pipeline.Value
public import Idealize.ShloMosaic.Lib.Tactic

@[expose] public section

set_option maxRecDepth 65536

noncomputable section

open Idealize.ShloMosaic Idealize.ShloMosaic.TcCoe Idealize.SL.Sem

namespace Cert.KernelIdeal.Value

open Cert.KernelIdeal Cert.KernelIdeal.Gen

variable {F : FTy → Type} [FloatOps F]

/-- The offsets of a whole-buffer access, all zero. -/
theorem offs_zero : (![0, 0] : Fin 2 → Nat) = fun _ => 0 := funext fun a => by fin_cases a <;> rfl

/-- The logarithms of one chunk of eight rows: `log t` where the label is not 1 and `log (max (1 - t) 1e-31)` where it
    is, with `t = exp (1 - y * rsqrt y)` and `y = x * x + 1`. -/
def chunk (x : FVec F S8x2048 .f32) (l : IVec S8x2048 32) : FVec F S8x2048 .f32 :=
  let y := addf (mulf x x) (broadcast S8x2048 (Scalar.ofBits .f32 0x3F800000#32))
  let t := exp (subf (broadcast S8x2048 (Scalar.ofBits .f32 0x3F800000#32)) (mulf y (rsqrt y)))
  log (select (cmpi .eq l (broadcast S8x2048 1#32))
    (maximumf (subf (broadcast S8x2048 (Scalar.ofBits .f32 0x3F800000#32)) t)
      (broadcast S8x2048 (Scalar.ofBits .f32 0x0C01CEB3#32))) t)

/-- The register accumulator after the first `n` of 128 chunks. -/
def acc (X : Fin 128 → FVec F S8x2048 .f32) (L : Fin 128 → IVec S8x2048 32) : ℕ → FVec F S8x2048 .f32
  | 0 => broadcast S8x2048 (Scalar.ofBits .f32 0x00000000#32)
  | n + 1 => addf (acc X L n) (chunk (X (Fin.ofNat 128 n)) (L (Fin.ofNat 128 n)))

/-- The sum of all elements of an accumulator, as the kernel takes it. -/
def total (a : FVec F S8x2048 .f32) : F .f32 :=
  extractAt ![0, 0, 0] (shapeCast S1x1x1 (multiReduction .add [1, 2] S1
    (shapeCast S1x8x2048 a shapeCasts_S8x2048_S1x8x2048) 0x00000000#32 reduces_S1x8x2048_S1 (.inl rfl) rfl)
    shapeCasts_S1_S1x1x1) inpos_S1x1x1_p0_0_0

/-- The rectangle of a block that chunk `r` reads: eight rows from row `8 r`, every column. -/
abbrev rows (r : Fin 128) : Rect S1024x2048 :=
  Rect.unit (s := S1024x2048) (k0_off1 (BitVec.ofNat 32 r.val)) S8x2048.size (k0_off1_inb r)

/-- What one block contributes: the sum of the accumulator over the block's 128 chunks. -/
def part (x0 : Vec F S1024x2048 .f32) (x1 : Vec F S1024x2048 .i32) : F .f32 :=
  total (acc (fun r => View.ld x0 (rows r)) (fun r => View.ld x1 (rows r)) 128)

/-- A block of one element has one index. -/
theorem idx_one (a b : S1x1.Idx) : a = b := by
  funext k
  have ha := (a k).isLt
  have hb := (b k).isLt
  have hs : S1x1.size k = 1 := by fin_cases k <;> rfl
  exact Fin.ext (by omega)

/-- A grid step other than the first takes the block's contribution off what the running total held. -/
theorem out_B (c : Dev nD) (i : grid0.Coords) (a1 : Memref sig .tc .vmem S1024x2048 .f32) (h1 : a1.IsWhole)
    (a2 : Memref sig .tc .vmem S1024x2048 .i32) (h2 : a2.IsWhole) (a3 : Memref sig .tc .smem S1x1 .f32) (h3 : a3.IsWhole)
    (hc : ¬cond0_0 i) (x0 : Vec F S1024x2048 .f32) (x1 : Vec F S1024x2048 .i32) (xo : Vec F S1x1 .f32) :
    out0_B_2 c i a1 h1 a2 h2 a3 h3 hc x0 x1 xo = fun j => Scalar.subf (xo j) (part x0 x1) := by
  unfold out0_B_2
  rw [View.read_writes_eq_canon _ _ _ (cover0_B_2 c i a1 h1 a2 h2 a3 h3 hc x0 x1 xo)]
  unfold kernelRun0_B
  dsimp only
  rw [View.canon_unit_zero offs_zero]
  refine Eq.trans (b := fun _ => Scalar.subf
      (View.readAt (Elt F) a3.view (Rect.unit (s := S1x1) ![0, 0] S1x1.size inb_S1x1_S1x1_0_0).toLoadRect (h3.unread xo)
        (Shape.Idx.first (by show 0 < S1x1.numel; rw [numel1_S1x1]; exact Nat.one_pos)))
      (total (acc (fun r => View.readAt (Elt F) a1.view (rows r).toLoadRect (h1.unread x0))
        (fun r => View.readAt (Elt F) a2.view (rows r).toLoadRect (h2.unread x1)) 128))) (by sl_kernel_rfl) ?_
  funext j
  simp only [View.readAt_eq_ld, h1.read_unread, h2.read_unread, h3.read_unread]
  rw [show View.ld xo (Rect.unit (s := S1x1) ![0, 0] S1x1.size inb_S1x1_S1x1_0_0) = xo from
    View.ld_unit_zero (S := S1x1) offs_zero _ xo]
  exact congrArg (fun k => Scalar.subf (xo k) (part x0 x1)) (idx_one _ j)

/-- The first grid step leaves zero less the block's contribution. -/
theorem out_A (c : Dev nD) (i : grid0.Coords) (a1 : Memref sig .tc .vmem S1024x2048 .f32) (h1 : a1.IsWhole)
    (a2 : Memref sig .tc .vmem S1024x2048 .i32) (h2 : a2.IsWhole) (a3 : Memref sig .tc .smem S1x1 .f32) (h3 : a3.IsWhole)
    (hc : cond0_0 i) (x0 : Vec F S1024x2048 .f32) (x1 : Vec F S1024x2048 .i32) :
    out0_A_2 c i a1 h1 a2 h2 a3 h3 hc x0 x1
      = fun _ => Scalar.subf (Scalar.ofBits .f32 0x00000000#32) (part x0 x1) := by
  unfold out0_A_2
  rw [View.read_writes_eq_canon _ _ _ (cover0_A_2 c i a1 h1 a2 h2 a3 h3 hc x0 x1)]
  unfold kernelRun0_A
  dsimp only
  rw [View.canon_cons_unit_zero (S := S1x1) offs_zero]
  refine Eq.trans (b := fun _ => Scalar.subf (Scalar.ofBits .f32 0x00000000#32)
      (total (acc (fun r => View.readAt (Elt F) a1.view (rows r).toLoadRect (h1.unread x0))
        (fun r => View.readAt (Elt F) a2.view (rows r).toLoadRect (h2.unread x1)) 128))) (by sl_kernel_rfl) ?_
  simp only [View.readAt_eq_ld, h1.read_unread, h2.read_unread]
  rfl

end Cert.KernelIdeal.Value

end
-- ==== Proof.Element.lean ====
/- The loss of one element, over the reals, and the two ways the programs compute it: the kernel as minus a logarithm,
   the reference as the loss itself. -/
module

public import Idealize.ShloMosaic.Lib.ValueIdx
public import Idealize.ShloMosaic.Lib.IdealHost
public import Idealize.ShloMosaic.PureOps.Ideal.Laws
public import Idealize.ShloMosaic.Lib.Affine

@[expose] public section

noncomputable section

open Idealize.ShloMosaic

namespace Cert.Loss

/-- The real number the literal `1e-31` denotes in the 32-bit format. -/
def eps : ℝ := 8507059 / 2 ^ 126

/-- The literal `1e-31` denotes `eps`. -/
theorem ofBits_eps : Ideal.ofBits .f32 0x0C01CEB3#32 = (eps : EReal) := by
  simp [Ideal.ofBits, Ideal.ieee]
  rw [← EReal.coe_mul, eps, div_eq_mul_inv]

/-- `eps` is positive. -/
theorem eps_pos : 0 < eps := by unfold eps; positivity

/-- The factor the kernel's total is scaled by is `1 / 33554432`. -/
theorem ofBits_scale : Ideal.ofBits .f32 0x33000000#32 = ((1 / 33554432 : ℝ) : EReal) := by
  simp [Ideal.ofBits, Ideal.ieee]
  rw [← EReal.coe_mul]; norm_num

/-- The reference's divisor is the number of elements, `33554432`. -/
theorem ofBits_count : Ideal.ofBits .f32 0x4C000000#32 = ((33554432 : ℝ) : EReal) := by
  simp [Ideal.ofBits, Ideal.ieee]
  rw [← EReal.coe_pow, ← EReal.coe_mul]; norm_num

/-- `√(x² + 1) - 1`. -/
def huber (x : ℝ) : ℝ := Real.sqrt (x * x + 1) - 1

/-- The loss of one element: `huber x`, and `-log (max (1 - exp (-huber x)) eps)` where the label is 1. -/
def loss (x : ℝ) (l : BitVec 32) : ℝ :=
  if l = 1#32 then -Real.log (max (1 - Real.exp (-huber x)) eps) else huber x

/-- What the kernel adds to its accumulator for one element. -/
def kernelTerm (x : EReal) (l : BitVec 32) : EReal :=
  Ideal.log (if IntOp.cmpi .eq l 1#32 = 1#1
    then max (1 - Ideal.exp (1 - (x * x + 1) * Ideal.rsqrt (x * x + 1))) (Ideal.ofBits .f32 0x0C01CEB3#32)
    else Ideal.exp (1 - (x * x + 1) * Ideal.rsqrt (x * x + 1)))

/-- What the reference sums for one element. -/
def referenceTerm (x : EReal) (l : BitVec 32) : EReal :=
  if IntOp.cmpi .eq l 1#32 = 1#1
    then -Ideal.log (max (1 - Ideal.exp (-(Ideal.sqrt (x * x + 1) - 1))) (Ideal.ofBits .f32 0x0C01CEB3#32))
    else Ideal.sqrt (x * x + 1) - 1

/-- The larger of two reals, taken among the extended reals. -/
theorem coe_max (a b : ℝ) : max (a : EReal) (b : EReal) = ((max a b : ℝ) : EReal) :=
  (Monotone.map_max (f := fun r : ℝ => (r : EReal)) (fun _ _ h => EReal.coe_le_coe_iff.mpr h)).symm

/-- `y * rsqrt y` is the square root of `y = x² + 1`. -/
theorem mul_rsqrt (x : ℝ) :
    ((x : EReal) * x + 1) * Ideal.rsqrt ((x : EReal) * x + 1) = ((huber x + 1 : ℝ) : EReal) := by
  have hy : 0 < x * x + 1 := by nlinarith [mul_self_nonneg x]
  have e : ((x : EReal) * x + 1) = ((x * x + 1 : ℝ) : EReal) := by push_cast; rfl
  rw [e, Ideal.rsqrt_coe, if_neg (not_lt.mpr hy.le), if_neg hy.ne', ← EReal.coe_mul]
  congr 1
  unfold huber
  have hs : Real.sqrt (x * x + 1) ≠ 0 := (Real.sqrt_pos.mpr hy).ne'
  rw [sub_add_cancel, ← div_eq_mul_inv, div_eq_iff hs, Real.mul_self_sqrt hy.le]

/-- For a finite element the kernel adds minus the loss. -/
theorem kernelTerm_coe (x : ℝ) (l : BitVec 32) : kernelTerm (x : EReal) l = ((-loss x l : ℝ) : EReal) := by
  unfold kernelTerm loss
  rw [mul_rsqrt, ofBits_eps]
  have e1 : (1 : EReal) - ((huber x + 1 : ℝ) : EReal) = ((-huber x : ℝ) : EReal) := by
    rw [← EReal.coe_one, ← EReal.coe_sub]; congr 1; ring
  rw [e1, Ideal.exp_coe, ← EReal.coe_one, ← EReal.coe_sub, coe_max]
  simp only [IntOp.cmpi_eq]
  split_ifs with h
  · rw [Ideal.log_coe, if_neg (not_le.mpr (lt_max_of_lt_right eps_pos)), neg_neg]
  · rw [Ideal.log_coe, if_neg (not_le.mpr (Real.exp_pos _)), Real.log_exp]

/-- For a finite element the reference sums the loss. -/
theorem referenceTerm_coe (x : ℝ) (l : BitVec 32) : referenceTerm (x : EReal) l = ((loss x l : ℝ) : EReal) := by
  have hy : 0 < x * x + 1 := by nlinarith [mul_self_nonneg x]
  have e : Ideal.sqrt ((x : EReal) * x + 1) - 1 = ((huber x : ℝ) : EReal) := by
    rw [show ((x : EReal) * x + 1) = ((x * x + 1 : ℝ) : EReal) from by push_cast; rfl, Ideal.sqrt_coe,
      if_neg (not_lt.mpr hy.le), ← EReal.coe_one, ← EReal.coe_sub]
    rfl
  unfold referenceTerm loss
  rw [e, ofBits_eps, ← EReal.coe_neg, Ideal.exp_coe, ← EReal.coe_one, ← EReal.coe_sub, coe_max]
  simp only [IntOp.cmpi_eq]
  split_ifs with h
  · rw [Ideal.log_coe, if_neg (not_le.mpr (lt_max_of_lt_right eps_pos)), ← EReal.coe_neg]
  · rfl

/-- A finite sum of finite numbers is the sum of the reals. -/
theorem sum_coe {ι : Type*} (s : Finset ι) (f : ι → ℝ) : ∑ i ∈ s, (f i : EReal) = ((∑ i ∈ s, f i : ℝ) : EReal) := by
  induction s using Finset.cons_induction with
  | empty => simp
  | cons a s ha ih => rw [Finset.sum_cons, Finset.sum_cons, ih, EReal.coe_add]

end Cert.Loss

end
-- ==== Proof.BlockSum.lean ====
/- What one block contributes, over the extended reals: minus the sum of the losses of the block's elements. -/
module

public import proofs.«01_k».proof.Proof.Block
public import proofs.«01_k».proof.Proof.Element
public import Idealize.ShloMosaic.Lib.Pipeline.ValueKit.Tiles

@[expose] public section

noncomputable section

open Idealize.ShloMosaic Idealize.ShloMosaic.ValueIdx Cert.Loss

namespace Cert.KernelIdeal.Value

open Cert.KernelIdeal Cert.KernelIdeal.Gen

/-- A chunk's logarithms are the kernel's terms of its elements. -/
theorem chunk_apply (x : FVec Ideal S8x2048 .f32) (l : IVec S8x2048 32) (i : S8x2048.Idx) :
    chunk x l i = kernelTerm (x i) (l i) := by
  unfold kernelTerm
  rw [← Ideal.ofBits_one_f32]
  rfl

/-- After `n` chunks of finite elements an accumulator's element is minus the sum of the losses met there. -/
theorem acc_coe (X : Fin 128 → FVec Ideal S8x2048 .f32) (L : Fin 128 → IVec S8x2048 32)
    (x : Fin 128 → S8x2048.Idx → ℝ) (hx : ∀ r i, X r i = (x r i : EReal)) (i : S8x2048.Idx) :
    ∀ n : ℕ, acc X L n i
      = ((-∑ k ∈ Finset.range n, loss (x (Fin.ofNat 128 k) i) (L (Fin.ofNat 128 k) i) : ℝ) : EReal)
  | 0 => by
    rw [Finset.range_zero, Finset.sum_empty, neg_zero, EReal.coe_zero]
    exact Ideal.ofBits_zero_f32
  | n + 1 => by
    show acc X L n i + chunk (X (Fin.ofNat 128 n)) (L (Fin.ofNat 128 n)) i = _
    rw [acc_coe X L x hx i n, chunk_apply, hx, kernelTerm_coe, ← EReal.coe_add, Finset.sum_range_succ, neg_add]

/-- The kernel's total of an accumulator is the sum of its elements. -/
theorem total_eq (a : FVec Ideal S8x2048 .f32) : total a = ∑ i, a i := by
  show multiReduction .add [1, 2] S1 (shapeCast S1x8x2048 a shapeCasts_S8x2048_S1x8x2048) 0x00000000#32
    reduces_S1x8x2048_S1 (.inl rfl) rfl _ = _
  refine (Ideal.multiReduction_add_total _ _ _ (by decide) _ _ _).trans ?_
  exact Equiv.sum_comp (Shape.reshapeEquiv shapeCasts_S8x2048_S1x8x2048) a

/-- A sum over `a * b` numbers is the sum over `a` groups of `b` consecutive ones. -/
theorem sum_range_mul {M : Type*} [AddCommMonoid M] (f : ℕ → M) (b : ℕ) :
    ∀ a : ℕ, ∑ k ∈ Finset.range (a * b), f k = ∑ i ∈ Finset.range a, ∑ j ∈ Finset.range b, f (b * i + j)
  | 0 => by simp
  | a + 1 => by rw [Nat.succ_mul, Finset.sum_range_add, sum_range_mul f b a, Finset.sum_range_succ, Nat.mul_comm a b]

/-- The losses of row `q` of a block, summed. -/
def blockRow (y : S1024x2048.Idx → ℝ) (l : IVec S1024x2048 32) (q : ℕ) : ℝ :=
  ∑ b : Fin 2048, loss (y (ix2 (Fin.ofNat 1024 q) b)) (l (ix2 (Fin.ofNat 1024 q) b))

/-- Chunk `r` at row `a` and column `b` reads row `8 r + a` of the block. -/
theorem rows_idx (r : Fin 128) (a : Fin 8) (b : Fin 2048) :
    (rows r).idx (ix2 a b) = (ix2 (Fin.ofNat 1024 (8 * r.val + a.val)) b : S1024x2048.Idx) := by
  have h : k0_off1 (BitVec.ofNat 32 r.val) = ![8 * r.val, 0] := k0_off1_eq r
  have := r.isLt
  have := a.isLt
  funext k
  apply Fin.ext
  refine (Rect.idx_unit_val _ _ _ _ _).trans ?_
  refine (congrArg (· + (ix2 a b k).val) (congrFun h k)).trans ?_
  match k with
  | ⟨0, _⟩ => show 8 * r.val + a.val = (8 * r.val + a.val) % 1024; omega
  | ⟨1, _⟩ => show 0 + b.val = b.val; omega

/-- A block of finite elements contributes minus the sum of its losses. -/
theorem part_coe (x0 : Vec Ideal S1024x2048 .f32) (x1 : Vec Ideal S1024x2048 .i32) (y : S1024x2048.Idx → ℝ)
    (hy : ∀ i, x0 i = (y i : EReal)) :
    part x0 x1 = ((-∑ q ∈ Finset.range 1024, blockRow y x1 q : ℝ) : EReal) := by
  have e (i : S8x2048.Idx) := acc_coe (fun r => View.ld (Val := Elt Ideal) (e' := .f32) x0 (rows r))
    (fun r => View.ld (Val := Elt Ideal) (e' := .i32) x1 (rows r)) (fun r j => y ((rows r).idx j)) (fun r j => hy _) i 128
  unfold part
  rw [total_eq, Finset.sum_congr rfl fun i _ => e i, sum_coe, Finset.sum_neg_distrib, show (1024 : ℕ) = 128 * 8 from rfl,
    sum_range_mul (blockRow y x1) 8 128, Finset.sum_comm]
  congr 2
  refine Finset.sum_congr rfl fun k hk => ?_
  have hk := Finset.mem_range.mp hk
  rw [sum_idx2, ← Fin.sum_univ_eq_sum_range (fun a => blockRow y x1 (8 * k + a)) 8]
  refine Finset.sum_congr rfl fun a _ => Finset.sum_congr rfl fun b _ => ?_
  have hi := rows_idx (Fin.ofNat 128 k) a b
  rw [show (Fin.ofNat 128 k).val = k from Nat.mod_eq_of_lt hk] at hi
  rw [← hi]

end Cert.KernelIdeal.Value

end
-- ==== Proof.RunningTotal.lean ====
/- What the kernel's result array holds after the sixteen grid steps, and what the program's scalar result then is. -/
module

public import proofs.«01_k».proof.Proof.Block
public import Idealize.ShloMosaic.Lib.Claim
public import Idealize.ShloMosaic.Lib.Pipeline.ValueKit.Geometry

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (ρ : Dev nD → PrngReg)

/-- The running total after the blocks `0, …, n`: zero, less each block's contribution in turn. -/
def running (c : Dev nD) : (n : ℕ) → n < cfg0.N → F .f32
  | 0, h => Scalar.subf (Scalar.ofBits .f32 0x00000000#32) (part (iblk m c 0 ⟨0, h⟩) (iblk m c 1 ⟨0, h⟩))
  | n + 1, h => Scalar.subf (running c n (Nat.lt_of_succ_lt h)) (part (iblk m c 0 ⟨n + 1, h⟩) (iblk m c 1 ⟨n + 1, h⟩))

/-- The one-element buffer the kernel accumulates in holds the running total after every grid step. -/
theorem outsAt_eq (c : Dev nD) : ∀ (n : ℕ) (h : n < cfg0.N), outsAt0 m c n h = fun _ => running m c n h
  | 0, h => (outsAt0_A m c ⟨0, h⟩ rfl).trans (out_A ..)
  | n + 1, h => by
    have hN : cfg0.N = 16 := N_0
    have hB : ¬(⟨n + 1, h⟩ : Fin cfg0.N).val % 16 = 0 := by dsimp only; omega
    rw [outsAt0_B m c ⟨n + 1, h⟩ hB, out_B]
    show (fun j => Scalar.subf (outsAt0 m c n _ j) _) = fun _ => Scalar.subf (running m c n _) _
    rw [outsAt_eq c n]

/-- The last grid step is a grid step. -/
theorem last_lt : 15 < cfg0.N := by rw [show cfg0.N = 16 from N_0]; decide

/-- The kernel's result array: the running total after the last block. -/
abbrev result (c : Dev nD) : Buf (Elt F) ((c : Thread nD τ).loc main_v0) := fun _ => running m c 15 last_lt

/-- The kernel's result array ends holding the running total after the last block. -/
theorem final_array (c : Dev nD) : (dats m 0 c).arrAt 2 cfg0.N = result m c := by
  refine (dats m 0 c).arrAt_eq_of_covers 2 _ (by decide +kernel) fun t hf y => ?_
  have hN : cfg0.N = 16 := N_0
  have h15 : t.val = 15 := by have := (flush0_2 t).mp hf; have := t.isLt; omega
  obtain rfl : t = ⟨15, last_lt⟩ := Fin.ext h15
  show (cfg0.win 2).cut (grid0.coords ⟨15, last_lt⟩) ((dats m 0 c).after 2 ⟨15, last_lt⟩) y = _
  rw [after0_2, outsAt_eq]

/-- The run of the program: its scalar is the kernel's one number scaled by the literal `2⁻²⁵`, and the two arguments
    end as they began. -/
theorem run : θ_run defs (onTc (τ := τ) (main (F := F))) ⟨m, fun _ => 0, ρ⟩ fun r => ∀ c : Dev nD,
      r.2.mem ((c.tc : Thread nD τ).loc main_v2)
        = mulf (fun _ => running m c 15 last_lt : Vec F S_ .f32) (constant S_ .f32 0x33000000#32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Gen.run_main m ρ
  unfold Pipeline.afterTail₀
  simp only [List.flatten_cons, List.flatten_nil, List.append_nil]
  after_results
  have e : Pipeline.withArrays (cfgs 0).spec c (V0 m c) (fun w => (dats m 0 c).arrAt w (cfgs 0).N)
      (Proc.tc.devRef main_v0) = result m c :=
    (Pipeline.withArrays_arr (cfgs 0).spec (by decide) c (V0 m c) (fun w => (dats m 0 c).arrAt w (cfgs 0).N) 2).trans
      (final_array m c)
  rw [e]
  rfl

end Cert.KernelIdeal.Value

end
-- ==== Proof.KernelTotal.lean ====
/- What the program's kernel accumulates over its sixteen blocks, over the extended reals: the sum of the losses of all
   elements. -/
module

public import proofs.«01_k».proof.Proof.BlockSum
public import proofs.«01_k».proof.Proof.RunningTotal

@[expose] public section

noncomputable section

open Idealize.ShloMosaic Idealize.ShloMosaic.TcCoe Idealize.ShloMosaic.ValueIdx Idealize.SL.Sem Cert.Loss
open Idealize.ShloMosaic.Pipeline (Dat)

namespace Cert.KernelIdeal.Value

open Cert.KernelIdeal Cert.KernelIdeal.Gen

variable (m : (ℓ : Loc nD τ sig) → Buf (Elt Ideal) ℓ)

/-- The losses of row `n` of the arrays, summed. -/
def arrayRow (x : S16384x2048.Idx → ℝ) (l : IVec S16384x2048 32) (n : ℕ) : ℝ :=
  ∑ b : Fin 2048, loss (x (ix2 (Fin.ofNat 16384 n) b)) (l (ix2 (Fin.ofNat 16384 n) b))

/-- The place in the arrays of row `q`, column `b` of block `n`. -/
def place (n : ℕ) (j : S1024x2048.Idx) : S16384x2048.Idx := ix2 (Fin.ofNat 16384 (1024 * n + (j 0).val)) (j 1)

/-- Grid step `t` reads block `t` of each argument, from column 0. -/
theorem index_eq (t : Fin cfg0.N) : cc0_transform_0 (grid0.coords t) 0 = t.val ∧ cc0_transform_0 (grid0.coords t) 1 = 0 := by
  have hN : cfg0.N = 16 := N_0
  have ht := t.isLt
  have hc : (grid0.coords t 0).val = t.val / 1 % 16 := Pipeline.Grid.coords_val t 0 (by decide) rfl
  refine ⟨?_, rfl⟩
  show (BitVec.ofNat 32 (grid0.coords t 0).val).toNat = t.val
  rw [BitVec.toNat_ofNat, hc]
  omega

/-- The block of the first argument that grid step `t` reads. -/
theorem block_out (c : Dev nD) (t : Fin cfg0.N) (j : S1024x2048.Idx) :
    iblk m c 0 t j = m ((c.tc : Thread nD τ).loc main_arg0) (place t.val j) := by
  have hN : cfg0.N = 16 := N_0
  have ht := t.isLt
  have hj : (j 0).val < 1024 := (j 0).isLt
  have hi : win0_0.index t 0 = t.val ∧ win0_0.index t 1 = 0 := index_eq t
  unfold iblk
  rw [View.read_apply]
  show V m c main_arg0 _ = m ((c.tc : Thread nD τ).loc main_arg0) _
  unfold V
  congr 1
  funext a
  apply Fin.ext
  match a with
  | ⟨0, _⟩ =>
    show win0_0.index t 0 * 1024 + 1 * (j 0).val = (1024 * t.val + (j 0).val) % 16384
    rw [hi.1]; omega
  | ⟨1, _⟩ =>
    show win0_0.index t 1 * 2048 + 1 * (j 1).val = (j 1).val
    rw [hi.2]; omega

/-- The block of the labels that grid step `t` reads. -/
theorem block_label (c : Dev nD) (t : Fin cfg0.N) (j : S1024x2048.Idx) :
    iblk m c 1 t j = m ((c.tc : Thread nD τ).loc main_arg1) (place t.val j) := by
  have hN : cfg0.N = 16 := N_0
  have ht := t.isLt
  have hj : (j 0).val < 1024 := (j 0).isLt
  have hi : win0_1.index t 0 = t.val ∧ win0_1.index t 1 = 0 := index_eq t
  unfold iblk
  rw [View.read_apply]
  show V m c main_arg1 _ = m ((c.tc : Thread nD τ).loc main_arg1) _
  unfold V
  congr 1
  funext a
  apply Fin.ext
  match a with
  | ⟨0, _⟩ =>
    show win0_1.index t 0 * 1024 + 1 * (j 0).val = (1024 * t.val + (j 0).val) % 16384
    rw [hi.1]; omega
  | ⟨1, _⟩ =>
    show win0_1.index t 1 * 2048 + 1 * (j 1).val = (j 1).val
    rw [hi.2]; omega

variable (c : Dev nD) (x : S16384x2048.Idx → ℝ)

/-- A grid step's block contributes minus the losses of its 1024 rows. -/
theorem part_block (hx : ∀ i, m ((c.tc : Thread nD τ).loc main_arg0) i = (x i : EReal)) (t : Fin cfg0.N) :
    part (iblk m c 0 t) (iblk m c 1 t)
      = ((-∑ q ∈ Finset.range 1024, arrayRow x (m ((c.tc : Thread nD τ).loc main_arg1)) (1024 * t.val + q) : ℝ) : EReal) := by
  rw [part_coe (iblk m c 0 t) (iblk m c 1 t) (fun j => x (place t.val j)) fun j => (block_out m c t j).trans (hx _)]
  congr 2
  refine Finset.sum_congr rfl fun q hq => Finset.sum_congr rfl fun b _ => ?_
  rw [block_label m c t]
  have h : place t.val (ix2 (Fin.ofNat 1024 q) b) = ix2 (Fin.ofNat 16384 (1024 * t.val + q)) b := by
    unfold place
    show ix2 (Fin.ofNat 16384 (1024 * t.val + q % 1024)) b = _
    rw [Nat.mod_eq_of_lt (Finset.mem_range.mp hq)]
  show loss (x (place t.val (ix2 (Fin.ofNat 1024 q) b))) _ = _
  rw [h]

/-- After the blocks `0, …, n` the running total is the sum of the losses of their rows. -/
theorem running_coe (hx : ∀ i, m ((c.tc : Thread nD τ).loc main_arg0) i = (x i : EReal)) : ∀ (n : ℕ) (h : n < cfg0.N),
    running m c n h = ((∑ k ∈ Finset.range (n + 1), ∑ q ∈ Finset.range 1024,
      arrayRow x (m ((c.tc : Thread nD τ).loc main_arg1)) (1024 * k + q) : ℝ) : EReal)
  | 0, h => by
    show Ideal.ofBits .f32 0x00000000#32 - part (iblk m c 0 ⟨0, h⟩) (iblk m c 1 ⟨0, h⟩) = _
    rw [part_block m c x hx, Ideal.ofBits_zero_f32, ← EReal.coe_zero, ← EReal.coe_sub, zero_sub, neg_neg,
      zero_add, Finset.sum_range_one]
  | n + 1, h => by
    show running m c n _ - part (iblk m c 0 ⟨n + 1, h⟩) (iblk m c 1 ⟨n + 1, h⟩) = _
    rw [part_block m c x hx, running_coe hx n, ← EReal.coe_sub, sub_neg_eq_add, Finset.sum_range_succ _ (n + 1)]

/-- After the last block the running total is the sum of the losses of all elements. -/
theorem running_last (hx : ∀ i, m ((c.tc : Thread nD τ).loc main_arg0) i = (x i : EReal)) :
    running m c 15 last_lt
      = ((∑ i : S16384x2048.Idx, loss (x i) (m ((c.tc : Thread nD τ).loc main_arg1) i) : ℝ) : EReal) := by
  rw [running_coe m c x hx, ← sum_range_mul, sum_idx2, show (15 + 1) * 1024 = 16384 from rfl,
    ← Fin.sum_univ_eq_sum_range (arrayRow x (m ((c.tc : Thread nD τ).loc main_arg1))) 16384]
  refine congrArg (fun r : ℝ => (r : EReal)) ?_
  refine Finset.sum_congr rfl fun a _ => Finset.sum_congr rfl fun b _ => ?_
  rw [Fin.ofNat_val_eq_self]

end Cert.KernelIdeal.Value

end
-- ==== Proof.ReferenceTotal.lean ====
/- What the reference computes, over the extended reals: the sum of the losses of all elements, divided by their
   number. And what the precondition says of the first argument. -/
module

public import proofs.«01_k».proof.Proof.Element
public import proofs.«01_k».proof.Proof.Gen.ReferenceIdeal.Run
public import proofs.«01_k».proof.Proof.Gen.Pre_finite
public import Idealize.ShloMosaic.Lib.ReduceAll

@[expose] public section

noncomputable section

open Idealize.ShloMosaic Idealize.ShloMosaic.ValueIdx Cert.Loss

namespace Cert.ReferenceIdeal.Value

open Cert.ReferenceIdeal Cert.ReferenceIdeal.Gen

/-- The reference's array of element losses. -/
def losses (X : FVec Ideal S16384x2048 .f32) (L : IVec S16384x2048 32) : FVec Ideal S16384x2048 .f32 :=
  select (cmpi .eq L (broadcastInDim S16384x2048 ![] bcast_S_S16384x2048 (constantI S_ 32 1#32)))
    (Host.negf (Host.log (maximumf (subf (broadcastInDim S16384x2048 ![] bcast_S_S16384x2048 (constant S_ .f32 0x3F800000#32))
      (Host.exp (Host.negf (subf (Host.sqrt (addf (mulf X X)
        (broadcastInDim S16384x2048 ![] bcast_S_S16384x2048 (constant S_ .f32 0x3F800000#32))))
        (broadcastInDim S16384x2048 ![] bcast_S_S16384x2048 (constant S_ .f32 0x3F800000#32))))))
      (broadcastInDim S16384x2048 ![] bcast_S_S16384x2048 (constant S_ .f32 0x0C01CEB3#32)))))
    (subf (Host.sqrt (addf (mulf X X) (broadcastInDim S16384x2048 ![] bcast_S_S16384x2048 (constant S_ .f32 0x3F800000#32))))
      (broadcastInDim S16384x2048 ![] bcast_S_S16384x2048 (constant S_ .f32 0x3F800000#32)))

/-- An element of the reference's array of losses is the reference's term of the elements. -/
theorem losses_apply (X : FVec Ideal S16384x2048 .f32) (L : IVec S16384x2048 32) (i : S16384x2048.Idx) :
    losses X L i = referenceTerm (X i) (L i) := by
  unfold referenceTerm
  rw [← Ideal.ofBits_one_f32]
  rfl

/-- The reference's result at finite elements: the sum of all losses times `1 / 33554432`. -/
theorem mean_eq (X : FVec Ideal S16384x2048 .f32) (L : IVec S16384x2048 32) (x : S16384x2048.Idx → ℝ)
    (hx : ∀ i, X i = (x i : EReal)) (j : S_.Idx) :
    Host.divf (Host.reduceAdd (losses X L) (constant S_ .f32 0x00000000#32) reducesTo_S16384x2048_S_d0_1 h_S_)
        (constant S_ .f32 0x4C000000#32) j
      = (((∑ i, loss (x i) (L i)) * (1 / 33554432) : ℝ) : EReal) := by
  rw [hostDivf_apply, hostReduceAdd_apply, Ideal.hostReduceAdd_total _ (fun b => b.elim0), constant_apply, constant_apply,
    Ideal.ofBits_zero_f32, zero_add, ofBits_count, Ideal.div_coe (by norm_num)]
  have e : ∀ i, losses X L i = ((loss (x i) (L i) : ℝ) : EReal) := fun i => by
    rw [losses_apply, hx, referenceTerm_coe]
  rw [Finset.sum_congr rfl fun i _ => e i, sum_coe, ← EReal.coe_mul]

end Cert.ReferenceIdeal.Value

namespace Cert.Pre_finite

open Cert.Pre_finite.Gen

/-- Where the precondition holds every element of the first argument is a real number. -/
theorem real_of_finite (X : FVec Ideal S16384x2048 .f32) (L : IVec S16384x2048 32)
    (h : fn (F := Ideal) X L = fun _ => 1#1) : ∃ x : S16384x2048.Idx → ℝ, ∀ i, X i = (x i : EReal) := by
  have hT : Ideal.ofBits .f32 0x7F800000#32 = ⊤ := by simp [Ideal.ofBits, Ideal.ieee]
  have hlt : ∀ i, max (X i) (-(X i)) < (⊤ : EReal) := fun i => by
    have hi := Host.reduce_andi_all _ _ _ _ ix0 (congrFun h ix0) i
    have hi : Ideal.cmp .olt (max (X i) (-(X i))) (Ideal.ofBits .f32 0x7F800000#32) = 1#1 := hi
    rw [hT] at hi
    by_contra hn
    simp [Ideal.cmp, hn] at hi
  refine ⟨fun i => (X i).toReal, fun i => (EReal.coe_toReal ?_ ?_).symm⟩
  · intro e
    have := hlt i
    rw [e] at this
    simp at this
  · intro e
    have := hlt i
    rw [e] at this
    simp at this

end Cert.Pre_finite

end
-- ==== Proof.Assemble.lean ====
/- The value claim: the kernel's scalar and the reference's are the same extended real; and the reference's frame. -/
module

public import proofs.«01_k».proof.Defs
public import proofs.«01_k».proof.Proof.KernelTotal
public import proofs.«01_k».proof.Proof.ReferenceTotal
public import Idealize.ShloMosaic.Lib.Quiescent

@[expose] public section

noncomputable section

open Idealize.ShloMosaic Idealize.ShloMosaic.TcCoe Idealize.SL.Sem Cert.Loss

namespace Cert.Proof

/-- The reference terminates, leaves its arguments as they were, and ends with every counter zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0 :=
  θ_run_mono (Cert.ReferenceIdeal.Value.run m g) fun r h => ⟨fun c => (h c).2, sem_eq_zero_of_no_sems (by decide) r.2⟩

/-- With the first argument finite, the kernel's scaled total is the reference's mean. -/
theorem value_eq (m : (ℓ : Loc Cert.KernelIdeal.nD Cert.KernelIdeal.τ Cert.KernelIdeal.sig) → Buf (Elt Ideal) ℓ)
    (c : Dev Cert.KernelIdeal.nD)
    (h : Cert.Pre_finite.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    Host.divf (Host.reduceAdd (Cert.ReferenceIdeal.Value.losses
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
        (constant Cert.ReferenceIdeal.S_ .f32 0x00000000#32) Cert.ReferenceIdeal.Gen.reducesTo_S16384x2048_S_d0_1
        Cert.ReferenceIdeal.Gen.h_S_) (constant Cert.ReferenceIdeal.S_ .f32 0x4C000000#32)
      = mulf (fun _ => Cert.KernelIdeal.Value.running m c 15 Cert.KernelIdeal.Value.last_lt : Vec Ideal Cert.KernelIdeal.S_ .f32)
          (constant Cert.KernelIdeal.S_ .f32 0x33000000#32) := by
  obtain ⟨x, hx⟩ := Cert.Pre_finite.real_of_finite _ _ h
  funext j
  rw [Cert.ReferenceIdeal.Value.mean_eq _ _ x hx]
  show _ = Cert.KernelIdeal.Value.running m c 15 Cert.KernelIdeal.Value.last_lt * Ideal.ofBits .f32 0x33000000#32
  rw [Cert.KernelIdeal.Value.running_last m c x hx, ofBits_scale, ← EReal.coe_mul]

/-- The value claim. -/
theorem value : Cert.algebraic_KernelIdeal_ReferenceIdeal_pre_finite := by
  pair_intro
  · run_from Cert.KernelIdeal.Value.run m g
  · run_from Cert.ReferenceIdeal.Value.run m' g'
    exact value_eq m c (hpre c)

end Cert.Proof

end
-- ==== Proof.NearElement.lean ====
/- The loss of one element with the literal added to the logarithm's argument, and how far the loss the kernel takes,
   with the larger of the two, lies from it. -/
module

public import proofs.«01_k».proof.Proof.Element

@[expose] public section

noncomputable section

open Idealize.ShloMosaic

namespace Cert.Loss

/-- The real number the literal `0.7` denotes in the 32-bit format. -/
def seven : ℝ := 11744051 / 2 ^ 24

/-- The literal `0.7` denotes `seven`. -/
theorem ofBits_seven : Ideal.ofBits .f32 0x3F333333#32 = (seven : EReal) := by
  simp [Ideal.ofBits, Ideal.ieee]
  rw [← EReal.coe_mul, seven, div_eq_mul_inv]

/-- The logarithm of 2 is below the literal. -/
theorem log_two_le : Real.log 2 ≤ seven := by
  refine (Real.log_le_iff_le_exp two_pos).mpr (le_trans ?_ (Real.sum_le_exp_of_nonneg (by unfold seven; positivity) 4))
  unfold seven
  norm_num [Finset.sum_range_succ, Nat.factorial]

/-- `1 - exp (-huber x)`. -/
def rest (x : ℝ) : ℝ := 1 - Real.exp (-huber x)

/-- At zero nothing is left: `rest 0 = 0`. -/
theorem rest_zero : rest 0 = 0 := by simp [rest, huber]

/-- Away from zero `rest x` is positive. -/
theorem rest_pos {x : ℝ} (h : x ≠ 0) : 0 < rest x := by
  have hx : 0 < x * x := mul_self_pos.mpr h
  have hs : 1 < Real.sqrt (x * x + 1) := by
    rw [show (1 : ℝ) = Real.sqrt 1 from Real.sqrt_one.symm]
    exact Real.sqrt_lt_sqrt zero_le_one (by rw [Real.sqrt_one]; linarith)
  have he : Real.exp (-huber x) < 1 := by
    rw [← Real.exp_zero]
    exact Real.exp_lt_exp.mpr (by unfold huber; linarith)
  unfold rest
  linarith

/-- `rest x` is never negative. -/
theorem rest_nonneg (x : ℝ) : 0 ≤ rest x := by
  rcases eq_or_ne x 0 with rfl | h
  · exact rest_zero.ge
  · exact (rest_pos h).le

/-- The loss of one element with the literal added: `huber x`, and `-log (rest x + eps)` where the label is 1. -/
def addLoss (x : ℝ) (l : BitVec 32) : ℝ := if l = 1#32 then -Real.log (rest x + eps) else huber x

/-- The distance allowed at one element: the smaller of `eps / rest x` and `0.7` where the label is 1 and `x` is not
    zero, and nothing elsewhere. -/
def gap (x : ℝ) (l : BitVec 32) : ℝ := if l = 1#32 ∧ x ≠ 0 then min (eps * (1 / rest x)) seven else 0

/-- The loss with the literal added is at most the loss with the larger of the two. -/
theorem addLoss_le (x : ℝ) (l : BitVec 32) : addLoss x l ≤ loss x l := by
  unfold addLoss loss
  split_ifs with h
  · have h0 := rest_nonneg x
    refine neg_le_neg (Real.log_le_log (lt_max_of_lt_right eps_pos) (max_le ?_ ?_))
    · show rest x ≤ _
      linarith [eps_pos]
    · linarith
  · exact le_rfl

/-- For positive `a` and `b` the logarithm of the sum exceeds that of the larger by at most the smaller of `b / a` and
    the logarithm of 2. -/
theorem log_add_le {a b : ℝ} (ha : 0 < a) (hb : 0 < b) :
    Real.log (a + b) ≤ Real.log (max a b) + min (b * (1 / a)) (Real.log 2) := by
  have hm : 0 < max a b := lt_max_of_lt_left ha
  rw [← sub_le_iff_le_add', le_min_iff]
  constructor
  · have h1 : Real.log (a + b) - Real.log a ≤ b * (1 / a) := by
      rw [← Real.log_div (by positivity) ha.ne']
      refine (Real.log_le_sub_one_of_pos (by positivity)).trans (le_of_eq ?_)
      field_simp
      ring
    have h2 : Real.log a ≤ Real.log (max a b) := Real.log_le_log ha (le_max_left _ _)
    linarith
  · rw [sub_le_iff_le_add, ← Real.log_mul two_ne_zero hm.ne']
    refine Real.log_le_log (by positivity) ?_
    linarith [le_max_left a b, le_max_right a b]

/-- The loss with the larger of the two is at most the loss with the literal added, plus the distance allowed. -/
theorem loss_le (x : ℝ) (l : BitVec 32) : loss x l ≤ addLoss x l + gap x l := by
  unfold addLoss loss gap
  by_cases hl : l = 1#32
  · by_cases hx : x = 0
    · subst hx
      rw [if_pos hl, if_pos hl, if_neg (by simp)]
      show -Real.log (max (rest 0) eps) ≤ _
      rw [rest_zero, max_eq_right eps_pos.le, zero_add, add_zero]
    · rw [if_pos hl, if_pos hl, if_pos ⟨hl, hx⟩]
      show -Real.log (max (rest x) eps) ≤ _
      have h := log_add_le (rest_pos hx) eps_pos
      have h7 := min_le_min_left (eps * (1 / rest x)) log_two_le
      linarith
  · rw [if_neg hl, if_neg hl, if_neg (fun h => hl h.1), add_zero]

/-- One element's loss as the postcondition writes it. -/
def addTerm (x : EReal) (l : BitVec 32) : EReal :=
  if IntOp.cmpi .eq l 1#32 = 1#1
    then -Ideal.log ((1 - Ideal.exp (-(Ideal.sqrt (x * x + 1) - 1))) + Ideal.ofBits .f32 0x0C01CEB3#32)
    else Ideal.sqrt (x * x + 1) - 1

/-- One element's distance as the postcondition writes it. -/
def gapTerm (x : EReal) (l : BitVec 32) : EReal :=
  if IntOp.andi (IntOp.cmpi .eq l 1#32) (Ideal.cmp .une x 0) = 1#1
    then min (Ideal.div (Ideal.ofBits .f32 0x0C01CEB3#32) (1 - Ideal.exp (-(Ideal.sqrt (x * x + 1) - 1))))
      (Ideal.ofBits .f32 0x3F333333#32)
    else 0

/-- `√(x² + 1) - 1` as the host computes it. -/
theorem sqrt_sub_one (x : ℝ) : Ideal.sqrt ((x : EReal) * x + 1) - 1 = ((huber x : ℝ) : EReal) := by
  have hy : 0 < x * x + 1 := by nlinarith [mul_self_nonneg x]
  rw [show ((x : EReal) * x + 1) = ((x * x + 1 : ℝ) : EReal) from by push_cast; rfl, Ideal.sqrt_coe,
    if_neg (not_lt.mpr hy.le), ← EReal.coe_one, ← EReal.coe_sub]
  rfl

/-- `1 - exp (-(√(x² + 1) - 1))` as the host computes it. -/
theorem one_sub_exp (x : ℝ) : 1 - Ideal.exp (-(Ideal.sqrt ((x : EReal) * x + 1) - 1)) = ((rest x : ℝ) : EReal) := by
  rw [sqrt_sub_one, ← EReal.coe_neg, Ideal.exp_coe, ← EReal.coe_one, ← EReal.coe_sub]
  rfl

/-- For a finite element the loss as the postcondition writes it is `addLoss`. -/
theorem addTerm_coe (x : ℝ) (l : BitVec 32) : addTerm (x : EReal) l = ((addLoss x l : ℝ) : EReal) := by
  unfold addTerm addLoss
  rw [one_sub_exp, sqrt_sub_one, ofBits_eps, ← EReal.coe_add]
  simp only [IntOp.cmpi_eq]
  have hp : 0 < rest x + eps := by linarith [rest_nonneg x, eps_pos]
  split_ifs with h
  · rw [Ideal.log_coe, if_neg (not_le.mpr hp), ← EReal.coe_neg]
  · rfl

/-- The smaller of two reals, taken among the extended reals. -/
theorem coe_min (a b : ℝ) : min (a : EReal) (b : EReal) = ((min a b : ℝ) : EReal) :=
  (Monotone.map_min (f := fun r : ℝ => (r : EReal)) (fun _ _ h => EReal.coe_le_coe_iff.mpr h)).symm

/-- A real compared unequal to zero. -/
theorem cmp_une_zero (x : ℝ) : Ideal.cmp .une (x : EReal) 0 = 1#1 ↔ x ≠ 0 := by
  by_cases h : x = 0 <;> simp [Ideal.cmp, h]

/-- For a finite element the distance as the postcondition writes it is `gap`. -/
theorem gapTerm_coe (x : ℝ) (l : BitVec 32) : gapTerm (x : EReal) l = ((gap x l : ℝ) : EReal) := by
  unfold gapTerm gap
  rw [one_sub_exp, ofBits_eps, ofBits_seven]
  simp only [IntOp.andi_eq_one, IntOp.cmpi_eq, cmp_une_zero]
  split_ifs with h
  · rw [Ideal.div_coe (rest_pos h.2).ne', ← EReal.coe_mul, coe_min]
  · rfl

end Cert.Loss

end
-- ==== Proof.NearAddition.lean ====
/- The postcondition about the formula with the literal added: the program's scalar lies between that formula's mean and
   the same mean plus the mean of the distances allowed. -/
module

public import proofs.«01_k».proof.Defs
public import proofs.«01_k».proof.Proof.NearElement
public import proofs.«01_k».proof.Proof.KernelTotal
public import proofs.«01_k».proof.Proof.ReferenceTotal
public import proofs.«01_k».proof.Proof.Gen.Post_near_addition

@[expose] public section

noncomputable section

open Idealize.ShloMosaic Idealize.ShloMosaic.TcCoe Idealize.ShloMosaic.ValueIdx Idealize.SL.Sem Cert.Loss

namespace Cert.Post_near_addition

open Cert.Post_near_addition.Gen

/-- A mean over the arrays' elements, of an array of reals: the sum times `1 / 33554432`. -/
theorem mean_coe (T : FVec Ideal S16384x2048 .f32) (f : S16384x2048.Idx → ℝ) (h : ∀ i, T i = (f i : EReal)) (j : S_.Idx) :
    Host.divf (Host.reduceAdd T (constant S_ .f32 0x00000000#32) reducesTo_S16384x2048_S_d0_1 h_S_)
        (constant S_ .f32 0x4C000000#32) j = (((∑ i, f i) * (1 / 33554432) : ℝ) : EReal) := by
  rw [hostDivf_apply, hostReduceAdd_apply, Ideal.hostReduceAdd_total _ (fun b => b.elim0), constant_apply, constant_apply,
    Ideal.ofBits_zero_f32, zero_add, ofBits_count, Ideal.div_coe (by norm_num), Finset.sum_congr rfl fun i _ => h i, sum_coe,
    ← EReal.coe_mul]

/-- The array of losses the postcondition averages. -/
def added (X : FVec Ideal S16384x2048 .f32) (L : IVec S16384x2048 32) : FVec Ideal S16384x2048 .f32 :=
  fun i => addTerm (X i) (L i)

/-- The array of distances the postcondition averages. -/
def gaps (X : FVec Ideal S16384x2048 .f32) (L : IVec S16384x2048 32) : FVec Ideal S16384x2048 .f32 :=
  fun i => gapTerm (X i) (L i)

/-- The postcondition compares the scalar with the mean of the losses, and with that plus the mean of the distances. -/
theorem fn_eq (X : FVec Ideal S16384x2048 .f32) (L : IVec S16384x2048 32) (r : FVec Ideal S_ .f32) (j : S_.Idx) :
    fn (F := Ideal) X L r j = IntOp.andi
      (Ideal.cmp .ole (Host.divf (Host.reduceAdd (added X L) (constant S_ .f32 0x00000000#32) reducesTo_S16384x2048_S_d0_1 h_S_)
        (constant S_ .f32 0x4C000000#32) j) (r j))
      (Ideal.cmp .ole (r j)
        (Host.divf (Host.reduceAdd (added X L) (constant S_ .f32 0x00000000#32) reducesTo_S16384x2048_S_d0_1 h_S_)
            (constant S_ .f32 0x4C000000#32) j
          + Host.divf (Host.reduceAdd (gaps X L) (constant S_ .f32 0x00000000#32) reducesTo_S16384x2048_S_d0_1 h_S_)
            (constant S_ .f32 0x4C000000#32) j)) := by
  unfold added gaps addTerm gapTerm
  simp only [← Ideal.ofBits_one_f32]
  simp only [← Ideal.ofBits_zero_f32]
  rfl

/-- The comparison `≤` of extended reals that holds comes out 1. -/
theorem cmp_ole {a b : EReal} (h : a ≤ b) : Ideal.cmp .ole a b = 1#1 := by simp [Ideal.cmp, h]

/-- The mean of the losses of finite elements meets the postcondition. -/
theorem fn_mean (X : FVec Ideal S16384x2048 .f32) (L : IVec S16384x2048 32) (x : S16384x2048.Idx → ℝ)
    (hx : ∀ i, X i = (x i : EReal)) (r : FVec Ideal S_ .f32)
    (hr : ∀ j, r j = (((∑ i, loss (x i) (L i)) * (1 / 33554432) : ℝ) : EReal)) : fn (F := Ideal) X L r = fun _ => 1#1 := by
  funext j
  rw [fn_eq, hr, mean_coe (added X L) (fun i => addLoss (x i) (L i)) (fun i => by unfold added; rw [hx, addTerm_coe]),
    mean_coe (gaps X L) (fun i => gap (x i) (L i)) (fun i => by unfold gaps; rw [hx, gapTerm_coe]), ← EReal.coe_add]
  refine IntOp.andi_eq_one.mpr ⟨cmp_ole (EReal.coe_le_coe_iff.mpr ?_), cmp_ole (EReal.coe_le_coe_iff.mpr ?_)⟩
  · exact mul_le_mul_of_nonneg_right (Finset.sum_le_sum fun i _ => addLoss_le _ _) (by norm_num)
  · rw [← add_mul, ← Finset.sum_add_distrib]
    exact mul_le_mul_of_nonneg_right (Finset.sum_le_sum fun i _ => loss_le _ _) (by norm_num)

end Cert.Post_near_addition

namespace Cert.Proof

open Cert.KernelIdeal Cert.KernelIdeal.Value

/-- The claim about the formula with the literal added. -/
theorem near_addition : Cert.holds_KernelIdeal_near_addition_pre_finite := by
  intro m g hpre
  refine θ_run_mono (Cert.KernelIdeal.Value.run m g) fun r h c => ⟨(h c).2.1, (h c).2.2, ?_⟩
  rw [(h c).1]
  obtain ⟨x, hx⟩ := Cert.Pre_finite.real_of_finite _ _ (hpre c)
  refine Cert.Post_near_addition.fn_mean _ _ x hx _ fun j => ?_
  show running m c 15 last_lt * Ideal.ofBits .f32 0x33000000#32 = _
  rw [running_last m c x hx, ofBits_scale, ← EReal.coe_mul]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Post_near_addition
public import proofs.«01_k».proof.Proof.Assemble
public import proofs.«01_k».proof.Proof.NearAddition
public import Idealize.ShloMosaic.Adequacy
public import Idealize.ShloMosaic.Init

@[expose] public section

noncomputable section

namespace Cert.Proof

open Idealize.ShloMosaic Idealize.SL.Sem Cert.Kernel

/-- Everything the certificate claims: the programs' stated facts, the frames, the idealization, the value claim. -/
theorem claim : Cert.Claim :=
  ⟨Cert.Kernel.Gen.facts, Cert.KernelIdeal.Gen.facts, Cert.ReferenceIdeal.Gen.facts, Cert.Pre_finite.Gen.facts,
    Cert.Post_near_addition.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    value,
    near_addition⟩

end Cert.Proof

end
